-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6912x3584 : Shape := ⟨2, ![6912, 3584]⟩
abbrev S1792x65536 : Shape := ⟨2, ![1792, 65536]⟩
abbrev S28x65536 : Shape := ⟨2, ![28, 65536]⟩
abbrev S6912 : Shape := ⟨1, ![6912]⟩
abbrev S6912x1 : Shape := ⟨2, ![6912, 1]⟩
abbrev S6912x128 : Shape := ⟨2, ![6912, 128]⟩
abbrev S1152x3584 : Shape := ⟨2, ![1152, 3584]⟩
abbrev S1792x512 : Shape := ⟨2, ![1792, 512]⟩
abbrev S28x512 : Shape := ⟨2, ![28, 512]⟩
abbrev S1152x128 : Shape := ⟨2, ![1152, 128]⟩
abbrev S1792x1x512 : Shape := ⟨3, ![1792, 1, 512]⟩
abbrev S1792x2x512 : Shape := ⟨3, ![1792, 2, 512]⟩
abbrev S3584x512 : Shape := ⟨2, ![3584, 512]⟩
abbrev S28x128x512 : Shape := ⟨3, ![28, 128, 512]⟩
abbrev S28x1x512 : Shape := ⟨3, ![28, 1, 512]⟩
abbrev S1152x512 : Shape := ⟨2, ![1152, 512]⟩
abbrev S1152 : Shape := ⟨1, ![1152]⟩
abbrev S1152x1 : Shape := ⟨2, ![1152, 1]⟩

abbrev nBuf : Space → Nat
  | .hbm => 8
  | .vmem => 15
  | .smem => 0
  | _ => 0

abbrev bufTy : (tb : Table) → Fin (tcTables nBuf tb) → BufTy
  | .hbm, ⟨0, _⟩ => ⟨S6912x3584, .bf16⟩
  | .hbm, ⟨1, _⟩ => ⟨S1792x65536, .i8⟩
  | .hbm, ⟨2, _⟩ => ⟨S28x65536, .f32⟩
  | .hbm, ⟨3, _⟩ => ⟨S6912, .i32⟩
  | .hbm, ⟨4, _⟩ => ⟨S6912x1, .i32⟩
  | .hbm, ⟨5, _⟩ => ⟨S6912x128, .i32⟩
  | .hbm, ⟨6, _⟩ => ⟨S6912x128, .f32⟩
  | .hbm, ⟨7, _⟩ => ⟨S6912x128, .f32⟩
  | .local _ .vmem, ⟨0, _⟩ => ⟨S1152x3584, .bf16⟩
  | .local _ .vmem, ⟨1, _⟩ => ⟨S1152x3584, .bf16⟩
  | .local _ .vmem, ⟨2, _⟩ => ⟨S1792x512, .i8⟩
  | .local _ .vmem, ⟨3, _⟩ => ⟨S1792x512, .i8⟩
  | .local _ .vmem, ⟨4, _⟩ => ⟨S28x512, .f32⟩
  | .local _ .vmem, ⟨5, _⟩ => ⟨S28x512, .f32⟩
  | .local _ .vmem, ⟨6, _⟩ => ⟨S1152x128, .i32⟩
  | .local _ .vmem, ⟨7, _⟩ => ⟨S1152x128, .i32⟩
  | .local _ .vmem, ⟨8, _⟩ => ⟨S1152x128, .f32⟩
  | .local _ .vmem, ⟨9, _⟩ => ⟨S1152x128, .f32⟩
  | .local _ .vmem, ⟨10, _⟩ => ⟨S1152x128, .f32⟩
  | .local _ .vmem, ⟨11, _⟩ => ⟨S1152x128, .f32⟩
  | .local _ .vmem, ⟨12, _⟩ => ⟨S1152x128, .f32⟩
  | .local _ .vmem, ⟨13, _⟩ => ⟨S1152x128, .f32⟩
  | .local _ .vmem, ⟨14, _⟩ => ⟨S1152x128, .f32⟩
  | _, _ => ⟨S6912x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 128], ![false, false]⟩

def k0_cond2 (i : grid0.Coords) : BitVec 1 :=
  let arg1 : BitVec 32 := BitVec.ofNat 32 (i 1).val
  let c127_i32 : BitVec 32 := 127#32
  let v81 : BitVec 1 := Scalar.cmpi .eq arg1 c127_i32
  let v82 : BitVec 32 := Scalar.extui v81
  let c0_i32_22 : BitVec 32 := 0#32
  let v83 : BitVec 1 := Scalar.cmpi .ne v82 c0_i32_22
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1152x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S28x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1152x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S6912x3584 : Shape := ⟨2, ![6912, 3584]⟩
abbrev S1792x65536 : Shape := ⟨2, ![1792, 65536]⟩
abbrev S28x65536 : Shape := ⟨2, ![28, 65536]⟩
abbrev S6912 : Shape := ⟨1, ![6912]⟩
abbrev S_ : Shape := ⟨0, ![]⟩
abbrev S28x64x65536 : Shape := ⟨3, ![28, 64, 65536]⟩
abbrev S28x1x65536 : Shape := ⟨3, ![28, 1, 65536]⟩
abbrev S6912x1792 : Shape := ⟨2, ![6912, 1792]⟩
abbrev S6912x65536 : Shape := ⟨2, ![6912, 65536]⟩
abbrev S6912x1 : Shape := ⟨2, ![6912, 1]⟩
abbrev S6912x128 : Shape := ⟨2, ![6912, 128]⟩

abbrev nBuf : Space → Nat
  | .hbm => 76
  | .vmem => 0
  | .smem => 0
  | _ => 0

abbrev bufTy : (tb : Table) → Fin (tcTables nBuf tb) → BufTy
  | .hbm, ⟨0, _⟩ => ⟨S6912x3584, .bf16⟩
  | .hbm, ⟨1, _⟩ => ⟨S1792x65536, .i8⟩
  | .hbm, ⟨2, _⟩ => ⟨S28x65536, .f32⟩
  | .hbm, ⟨3, _⟩ => ⟨S6912, .i32⟩
  | .hbm, ⟨4, _⟩ => ⟨S1792x65536, .i32⟩
  | .hbm, ⟨5, _⟩ => ⟨S28x65536, .bf16⟩
  | .hbm, ⟨6, _⟩ => ⟨S_, .i32⟩
  | .hbm, ⟨7, _⟩ => ⟨S1792x65536, .i32⟩
  | .hbm, ⟨8, _⟩ => ⟨S1792x65536, .i32⟩
  | .hbm, ⟨9, _⟩ => ⟨S_, .i32⟩
  | .hbm, ⟨10, _⟩ => ⟨S1792x65536, .i32⟩
  | .hbm, ⟨11, _⟩ => ⟨S1792x65536, .i1⟩
  | .hbm, ⟨12, _⟩ => ⟨S_, .i32⟩
  | .hbm, ⟨13, _⟩ => ⟨S1792x65536, .i32⟩
  | .hbm, ⟨14, _⟩ => ⟨S1792x65536, .i32⟩
  | .hbm, ⟨15, _⟩ => ⟨S1792x65536, .i32⟩
  | .hbm, ⟨16, _⟩ => ⟨S1792x65536, .f32⟩
  | .hbm, ⟨17, _⟩ => ⟨S1792x65536, .bf16⟩
  | .hbm, ⟨18, _⟩ => ⟨S28x64x65536, .bf16⟩
  | .hbm, ⟨19, _⟩ => ⟨S28x1x65536, .bf16⟩
  | .hbm, ⟨20, _⟩ => ⟨S28x64x65536, .bf16⟩
  | .hbm, ⟨21, _⟩ => ⟨S28x64x65536, .bf16⟩
  | .hbm, ⟨22, _⟩ => ⟨S1792x65536, .bf16⟩
  | .hbm, ⟨23, _⟩ => ⟨S_, .i32⟩
  | .hbm, ⟨24, _⟩ => ⟨S1792x65536, .i32⟩
  | .hbm, ⟨25, _⟩ => ⟨S1792x65536, .i32⟩
  | .hbm, ⟨26, _⟩ => ⟨S_, .i32⟩
  | .hbm, ⟨27, _⟩ => ⟨S1792x65536, .i32⟩
  | .hbm, ⟨28, _⟩ => ⟨S1792x65536, .i1⟩
  | .hbm, ⟨29, _⟩ => ⟨S_, .i32⟩
  | .hbm, ⟨30, _⟩ => ⟨S1792x65536, .i32⟩
  | .hbm, ⟨31, _⟩ => ⟨S1792x65536, .i32⟩
  | .hbm, ⟨32, _⟩ => ⟨S1792x65536, .i32⟩
  | .hbm, ⟨33, _⟩ => ⟨S1792x65536, .f32⟩
  | .hbm, ⟨34, _⟩ => ⟨S1792x65536, .bf16⟩
  | .hbm, ⟨35, _⟩ => ⟨S28x64x65536, .bf16⟩
  | .hbm, ⟨36, _⟩ => ⟨S28x1x65536, .bf16⟩
  | .hbm, ⟨37, _⟩ => ⟨S28x64x65536, .bf16⟩
  | .hbm, ⟨38, _⟩ => ⟨S28x64x65536, .bf16⟩
  | .hbm, ⟨39, _⟩ => ⟨S1792x65536, .bf16⟩
  | .hbm, ⟨40, _⟩ => ⟨S6912x1792, .bf16⟩
  | .hbm, ⟨41, _⟩ => ⟨S6912x65536, .f32⟩
  | .hbm, ⟨42, _⟩ => ⟨S6912x1792, .bf16⟩
  | .hbm, ⟨43, _⟩ => ⟨S6912x65536, .f32⟩
  | .hbm, ⟨44, _⟩ => ⟨S6912x65536, .f32⟩
  | .hbm, ⟨45, _⟩ => ⟨S_, .f32⟩
  | .hbm, ⟨46, _⟩ => ⟨S6912, .f32⟩
  | .hbm, ⟨47, _⟩ => ⟨S6912x1, .f32⟩
  | .hbm, ⟨48, _⟩ => ⟨S6912x65536, .f32⟩
  | .hbm, ⟨49, _⟩ => ⟨S6912x65536, .f32⟩
  | .hbm, ⟨50, _⟩ => ⟨S6912x65536, .f32⟩
  | .hbm, ⟨51, _⟩ => ⟨S_, .f32⟩
  | .hbm, ⟨52, _⟩ => ⟨S6912, .f32⟩
  | .hbm, ⟨53, _⟩ => ⟨S6912, .f32⟩
  | .hbm, ⟨54, _⟩ => ⟨S6912, .f32⟩
  | .hbm, ⟨55, _⟩ => ⟨S6912x1, .i32⟩
  | .hbm, ⟨56, _⟩ => ⟨S6912x65536, .i32⟩
  | .hbm, ⟨57, _⟩ => ⟨S6912x65536, .i32⟩
  | .hbm, ⟨58, _⟩ => ⟨S6912x65536, .i1⟩
  | .hbm, ⟨59, _⟩ => ⟨S_, .f32⟩
  | .hbm, ⟨60, _⟩ => ⟨S_, .f32⟩
  | .hbm, ⟨61, _⟩ => ⟨S6912x65536, .f32⟩
  | .hbm, ⟨62, _⟩ => ⟨S6912x65536, .f32⟩
  | .hbm, ⟨63, _⟩ => ⟨S_, .f32⟩
  | .hbm, ⟨64, _⟩ => ⟨S6912, .f32⟩
  | .hbm, ⟨65, _⟩ => ⟨S_, .f32⟩
  | .hbm, ⟨66, _⟩ => ⟨S6912, .f32⟩
  | .hbm, ⟨67, _⟩ => ⟨S6912, .f32⟩
  | .hbm, ⟨68, _⟩ => ⟨S6912, .f32⟩
  | .hbm, ⟨69, _⟩ => ⟨S_, .f32⟩
  | .hbm, ⟨70, _⟩ => ⟨S6912, .f32⟩
  | .hbm, ⟨71, _⟩ => ⟨S6912, .f32⟩
  | .hbm, ⟨72, _⟩ => ⟨S6912x1, .f32⟩
  | .hbm, ⟨73, _⟩ => ⟨S6912x128, .f32⟩
  | .hbm, ⟨74, _⟩ => ⟨S6912x1, .f32⟩
  | .hbm, ⟨75, _⟩ => ⟨S6912x128, .f32⟩
  | _, _ => ⟨S6912x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_call2_v0 : Ref sig .tc := ⟨.hbm, 60, rfl⟩
abbrev main_call2_v1 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Proof.Blocks.lean ====
/-
  The blocks a grid point reads, in terms of the argument arrays. Point `t` is at row block `t / 128` (1152 rows) and
  column block `t % 128` (512 columns).
-/
module

public import proofs.«01_k».proof.Proof.Gen.KernelIdeal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Head

open Cert.KernelIdeal Cert.KernelIdeal.Gen

variable {F : FTy → Type} [FloatOps F]
variable (m : (ℓ : Loc nD τ sig) → Buf (Elt F) ℓ)

/-- The second grid coordinate of a point. -/
theorem coord1 : ∀ t : Fin cfg0.N, ((grid0.coords t) 1).val = t.val % 128 := by decide +kernel

/-- Which block of the activations a point reads: its row block's. -/
theorem index0 : ∀ t : Fin cfg0.N, win0_0.index t 0 = t.val / 128 ∧ win0_0.index t 1 = 0 := by decide +kernel
/-- Which block of the weights a point reads: its column block's. -/
theorem index1 : ∀ t : Fin cfg0.N, win0_1.index t 0 = 0 ∧ win0_1.index t 1 = t.val % 128 := by decide +kernel
/-- Which block of the scales a point reads: its column block's. -/
theorem index2 : ∀ t : Fin cfg0.N, win0_2.index t 0 = 0 ∧ win0_2.index t 1 = t.val % 128 := by decide +kernel
/-- Which block of the targets a point reads: its row block's. -/
theorem index3 : ∀ t : Fin cfg0.N, win0_3.index t 0 = t.val / 128 ∧ win0_3.index t 1 = 0 := by decide +kernel

/-- Row `r` of point `t`'s row block, as a row of the array. -/
def row (t : Fin cfg0.N) (r : Fin 1152) : Fin 6912 :=
  ⟨1152 * (t.val / 128) + r.val, by have ht := lt_of_lt_of_eq t.isLt N_0; omega⟩

/-- Column `l` of point `t`'s column block, as a column of the array. -/
def col (t : Fin cfg0.N) (l : Fin 512) : Fin 65536 := ⟨512 * (t.val % 128) + l.val, by omega⟩

/-- The activations' block. -/
theorem iblk0_apply (c : Dev nD) (t : Fin cfg0.N) (r : Fin 1152) (k : Fin 3584) :
    (iblk m c 0 t : Vec F S1152x3584 .bf16) (ix2 r k) = m ((c : Thread nD τ).loc main_arg0) (ix2 (row t r) k) := by
  have hi := index0 t
  unfold iblk
  rw [View.read_apply]
  show V m c main_arg0 _ = m (c.tc.loc main_arg0) _
  rw [V_main_arg0]
  congr 1
  funext a
  apply Fin.ext
  match a with
  | ⟨0, _⟩ => show win0_0.index t 0 * 1152 + 1 * r.val = 1152 * (t.val / 128) + r.val; rw [hi.1]; omega
  | ⟨1, _⟩ => show win0_0.index t 1 * 3584 + 1 * k.val = k.val; rw [hi.2]; omega

/-- The packed weights' block. -/
theorem iblk1_apply (c : Dev nD) (t : Fin cfg0.N) (p : Fin 1792) (l : Fin 512) :
    (iblk m c 1 t : Vec F S1792x512 .i8) (ix2 p l) = m ((c : Thread nD τ).loc main_arg1) (ix2 p (col t l)) := by
  have hi := index1 t
  unfold iblk
  rw [View.read_apply]
  show V m c main_arg1 _ = m (c.tc.loc main_arg1) _
  rw [V_main_arg1]
  congr 1
  funext a
  apply Fin.ext
  match a with
  | ⟨0, _⟩ => show win0_1.index t 0 * 1792 + 1 * p.val = p.val; rw [hi.1]; omega
  | ⟨1, _⟩ => show win0_1.index t 1 * 512 + 1 * l.val = 512 * (t.val % 128) + l.val; rw [hi.2]; omega

/-- The scales' block. -/
theorem iblk2_apply (c : Dev nD) (t : Fin cfg0.N) (g : Fin 28) (l : Fin 512) :
    (iblk m c 2 t : Vec F S28x512 .f32) (ix2 g l) = m ((c : Thread nD τ).loc main_arg2) (ix2 g (col t l)) := by
  have hi := index2 t
  unfold iblk
  rw [View.read_apply]
  show V m c main_arg2 _ = m (c.tc.loc main_arg2) _
  rw [V_main_arg2]
  congr 1
  funext a
  apply Fin.ext
  match a with
  | ⟨0, _⟩ => show win0_2.index t 0 * 28 + 1 * g.val = g.val; rw [hi.1]; omega
  | ⟨1, _⟩ => show win0_2.index t 1 * 512 + 1 * l.val = 512 * (t.val % 128) + l.val; rw [hi.2]; omega

/-- The targets as the kernel receives them: each row's target in all 128 lanes. -/
theorem V_targets (c : Dev nD) (r : Fin 6912) (l : Fin 128) :
    (V m c main_v1 : Vec F S6912x128 .i32) (ix2 r l) = m ((c : Thread nD τ).loc main_arg3) (ix1 r) := by
  entry_read
  pointwise []

/-- The targets' block. -/
theorem iblk3_apply (c : Dev nD) (t : Fin cfg0.N) (r : Fin 1152) (l : Fin 128) :
    (iblk m c 3 t : Vec F S1152x128 .i32) (ix2 r l) = m ((c : Thread nD τ).loc main_arg3) (ix1 (row t r)) := by
  have hi := index3 t
  rw [← V_targets m c (row t r) l]
  unfold iblk
  rw [View.read_apply]
  show V m c main_v1 _ = V m c main_v1 _
  congr 1
  funext a
  apply Fin.ext
  match a with
  | ⟨0, _⟩ => show win0_3.index t 0 * 1152 + 1 * r.val = 1152 * (t.val / 128) + r.val; rw [hi.1]; omega
  | ⟨1, _⟩ => show win0_3.index t 1 * 128 + 1 * l.val = l.val; rw [hi.2]; omega

end Cert.KernelIdeal.Head

end
-- ==== Proof.Cases.lean ====
/-
  What one grid point leaves in the three scratch buffers and, at a row block's last point, in the two outputs: the
  covering stores of each case read back as the stored values.
-/
module

public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem

namespace Cert.KernelIdeal.Head

open Cert.KernelIdeal Cert.KernelIdeal.Gen

variable {F : FTy → Type} [FloatOps F]

/-- Both offsets of a whole-buffer access are zero. -/
theorem hz : (![0, 0] : Fin 2 → Nat) = fun _ => 0 := funext fun a => by fin_cases a <;> rfl

/-- The running maximum after a point, from the one before (`m`). -/
abbrev newMax (x0 : Vec F S1152x3584 .bf16) (x1 : Vec F S1792x512 .i8) (x2 : Vec F S28x512 .f32)
    (m : Vec F S1152x128 .f32) : Vec F S1152x128 .f32 := k0_pay12 x1 x2 x0 m

/-- The running sum after a point, from the maximum and sum before it. -/
abbrev newSum (x0 : Vec F S1152x3584 .bf16) (x1 : Vec F S1792x512 .i8) (x2 : Vec F S28x512 .f32)
    (m l : Vec F S1152x128 .f32) : Vec F S1152x128 .f32 :=
  k0_pay14 (k0_pay8 x1 x2 x0) (k0_pay9 x1 x2 x0) (k0_pay10 x1 x2 x0) (k0_pay11 x1 x2 x0) (newMax x0 x1 x2 m)
    (k0_pay13 x1 x2 x0 m l)

/-- The picked target logit after a point, from the pick before it; `x3` the targets. -/
abbrev newPick (i : grid0.Coords) (x0 : Vec F S1152x3584 .bf16) (x1 : Vec F S1792x512 .i8) (x2 : Vec F S28x512 .f32)
    (x3 : Vec F S1152x128 .i32) (z : Vec F S1152x128 .f32) : Vec F S1152x128 .f32 :=
  k0_pay15 (BitVec.ofNat 32 (i 1).val) (k0_pay8 x1 x2 x0) (k0_pay9 x1 x2 x0) (k0_pay10 x1 x2 x0) (k0_pay11 x1 x2 x0) z x3

variable (c : Dev nD) (i : grid0.Coords) (arg2 : Memref sig .tc .vmem S1152x3584 .bf16) (harg2 : arg2.IsWhole) (arg3 : Memref sig .tc .vmem S1792x512 .i8) (harg3 : arg3.IsWhole) (arg4 : Memref sig .tc .vmem S28x512 .f32) (harg4 : arg4.IsWhole) (arg5 : Memref sig .tc .vmem S1152x128 .i32) (harg5 : arg5.IsWhole) (arg6 : Memref sig .tc .vmem S1152x128 .f32) (harg6 : arg6.IsWhole) (arg7 : Memref sig .tc .vmem S1152x128 .f32) (harg7 : arg7.IsWhole) (arg8 : Memref sig .tc .vmem S1152x128 .f32) (harg8 : arg8.IsWhole) (arg9 : Memref sig .tc .vmem S1152x128 .f32) (harg9 : arg9.IsWhole) (arg10 : Memref sig .tc .vmem S1152x128 .f32) (harg10 : arg10.IsWhole)
    (x0 : Vec F S1152x3584 .bf16) (x1 : Vec F S1792x512 .i8) (x2 : Vec F S28x512 .f32) (x3 : Vec F S1152x128 .i32)
    (xs0 xs1 xs2 : Vec F S1152x128 .f32)

/-- A row block's first point: the maximum scratch. -/
theorem max_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3
      = newMax x0 x1 x2 k0_pay5 := by
  unfold sout0_A_0
  rw [View.read_writes_eq_canon _ _ _ (fun y => scover0_A_0 (y := y) ..)]
  unfold kernelRun0_A
  dsimp only
  sl_unfold_words
  rw [View.canon_cons_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    k0_pay16, shapeCast_self]

/-- A row block's first point: the sum scratch. -/
theorem sum_A (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3
      = newSum x0 x1 x2 k0_pay5 k0_pay6 := by
  unfold sout0_A_1
  rw [View.read_writes_eq_canon _ _ _ (fun y => scover0_A_1 (y := y) ..)]
  unfold kernelRun0_A
  dsimp only
  sl_unfold_words
  rw [View.canon_cons_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    k0_pay17, shapeCast_self]

/-- A row block's first point: the pick scratch. -/
theorem pick_A (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 x3
      = newPick i x0 x1 x2 x3 k0_pay7 := by
  unfold sout0_A_2
  rw [View.read_writes_eq_canon _ _ _ (fun y => scover0_A_2 (y := y) ..)]
  unfold kernelRun0_A
  dsimp only
  sl_unfold_words
  rw [View.canon_cons_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    k0_pay18, shapeCast_self]

/-- A middle point: the maximum scratch. -/
theorem max_B (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 xs0 xs1 xs2
      = newMax x0 x1 x2 xs0 := by
  unfold sout0_B_0
  rw [View.read_writes_eq_canon _ _ _ (fun y => scover0_B_0 (y := y) ..)]
  unfold kernelRun0_B
  dsimp only
  sl_unfold_words
  rw [View.canon_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    k0_pay16, shapeCast_self]

/-- A middle point: the sum scratch. -/
theorem sum_B (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 xs0 xs1 xs2
      = newSum x0 x1 x2 xs0 xs1 := by
  unfold sout0_B_1
  rw [View.read_writes_eq_canon _ _ _ (fun y => scover0_B_1 (y := y) ..)]
  unfold kernelRun0_B
  dsimp only
  sl_unfold_words
  rw [View.canon_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    k0_pay17, shapeCast_self]

/-- A middle point: the pick scratch. -/
theorem pick_B (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 x3 xs0 xs1 xs2
      = newPick i x0 x1 x2 x3 xs2 := by
  unfold sout0_B_2
  rw [View.read_writes_eq_canon _ _ _ (fun y => scover0_B_2 (y := y) ..)]
  unfold kernelRun0_B
  dsimp only
  sl_unfold_words
  rw [View.canon_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    k0_pay18, shapeCast_self]

/-- A row block's last point: the maximum scratch. -/
theorem max_C (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 xs0 xs1 xs2
      = newMax x0 x1 x2 xs0 := by
  unfold sout0_C_0
  rw [View.read_writes_eq_canon _ _ _ (fun y => scover0_C_0 (y := y) ..)]
  unfold kernelRun0_C
  dsimp only
  sl_unfold_words
  rw [View.canon_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    k0_pay16, shapeCast_self]

/-- A row block's last point: the sum scratch. -/
theorem sum_C (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 x3 xs0 xs1 xs2
      = newSum x0 x1 x2 xs0 xs1 := by
  unfold sout0_C_1
  rw [View.read_writes_eq_canon _ _ _ (fun y => scover0_C_1 (y := y) ..)]
  unfold kernelRun0_C
  dsimp only
  sl_unfold_words
  rw [View.canon_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    k0_pay17, shapeCast_self]

/-- A row block's last point: the pick scratch. -/
theorem pick_C (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 x3 xs0 xs1 xs2
      = newPick i x0 x1 x2 x3 xs2 := by
  unfold sout0_C_2
  rw [View.read_writes_eq_canon _ _ _ (fun y => scover0_C_2 (y := y) ..)]
  unfold kernelRun0_C
  dsimp only
  sl_unfold_words
  rw [View.canon_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    k0_pay18, shapeCast_self]

/-- A row block's last point: the log-sum-exp output, of the point's own new maximum and sum. -/
theorem lse_C (hc0 : ¬cond0_0 i) (hc1 : cond0_1 i) :
    out0_C_4 c i arg2 harg2 arg3 harg3 arg4 harg4 arg5 harg5 arg6 harg6 arg7 harg7 arg8 harg8 arg9 harg9 arg10 harg10 hc0 hc1 x0 x1 x2 x3 xs0 xs1 xs2
      = k0_pay2 (newMax x0 x1 x2 xs0) (newSum x0 x1 x2 xs0 xs1) := by
  unfold out0_C_4
  rw [View.read_writes_eq_canon _ _ _ (fun y => cover0_C_4 (y := y) ..)]
  unfold kernelRun0_C
  dsimp only
  sl_unfold_words
  rw [View.canon_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    newMax, shapeCast_self]

/-- A row block's last point: the log-probability output, of the point's own new maximum, sum and pick. -/
theorem logprob_C (hc0 : ¬cond0_0 i) (hc1 : cond0_1 i) :
    out0_C_5 c i arg2 harg2 arg3 harg3 arg4 harg4 arg5 harg5 arg6 harg6 arg7 harg7 arg8 harg8 arg9 harg9 arg10 harg10 hc0 hc1 x0 x1 x2 x3 xs0 xs1 xs2
      = k0_pay3 (newMax x0 x1 x2 xs0) (newSum x0 x1 x2 xs0 xs1) (newPick i x0 x1 x2 x3 xs2) := by
  unfold out0_C_5
  rw [View.read_writes_eq_canon _ _ _ (fun y => cover0_C_5 (y := y) ..)]
  unfold kernelRun0_C
  dsimp only
  sl_unfold_words
  rw [View.canon_unit_zero (S := S1152x128) hz]
  simp only [View.readCov_unit_zero (S := S1152x128) _ hz, View.readAt_eq_ld, harg2.read_unread, harg3.read_unread, harg4.read_unread, harg5.read_unread, harg8.read_unread, harg9.read_unread, harg10.read_unread, View.ld_unit_zero (S := S1152x128) hz,
    View.ld_unit_zero (S := S1152x3584) hz, View.ld_unit_zero (S := S1792x512) hz, View.ld_unit_zero (S := S28x512) hz,
    newMax, shapeCast_self]

end Cert.KernelIdeal.Head

end
-- ==== Proof.Logit.lean ====
/-
  One logit of the language-model head, as a function of the three input arrays: the activations `hn`, the weights `w`
  packed two signed four-bit values to a byte, and one scale per group of 128 input features and column.
-/
module

public import Idealize.ShloMosaic.Lib.Pointwise

@[expose] public section

noncomputable section

namespace Cert.Logit

open Idealize.ShloMosaic

/-- The signed four-bit value in half `k % 2` of a byte: the low half for an even feature, the high half for an odd
    one; flipping bit 3 and subtracting 8 extends the sign. -/
def nibble (k : ℕ) (b : BitVec 8) : BitVec 32 :=
  IntOp.subi (IntOp.xori (if k % 2 < 1 then IntOp.andi (b.setWidth 32) 15#32
    else IntOp.shrsi .vector (b.setWidth 32) 4#32) 8#32) 8#32

/-- The four-bit value as a number. -/
def weight (k : ℕ) (b : BitVec 8) : EReal := (((nibble k b).toInt : ℝ) : EReal)

/-- The logit of row `row` at column `col`: the product of the row with the dequantised column (`0` past the last
    column). -/
def logit (hn : (⟨2, ![6912, 3584]⟩ : Shape).Idx → EReal) (w : (⟨2, ![1792, 65536]⟩ : Shape).Idx → BitVec 8)
    (s : (⟨2, ![28, 65536]⟩ : Shape).Idx → EReal) (row : Fin 6912) (col : ℕ) : EReal :=
  if h : col < 65536 then
    ∑ k : Fin 3584, hn (ix2 row k) * (weight k (w (ix2 ⟨k.val / 2, by omega⟩ ⟨col, h⟩))
      * s (ix2 ⟨k.val / 128, by omega⟩ ⟨col, h⟩))
  else 0

/-- The even half of a byte by comparison: at least 8 stands for 16 less. -/
theorem nibble_even (b : BitVec 8) : nibble 0 b
    = Scalar.select (IntOp.cmpi .sge (IntOp.andi (b.setWidth 32) 15#32) 8#32)
        (IntOp.subi (IntOp.andi (b.setWidth 32) 15#32) 16#32) (IntOp.andi (b.setWidth 32) 15#32) := by
  revert b; decide +kernel

/-- The odd half of a byte by comparison: at least 8 stands for 16 less. -/
theorem nibble_odd (b : BitVec 8) : nibble 1 b
    = Scalar.select (IntOp.cmpi .sge (IntOp.shrsi .vector (b.setWidth 32) 4#32) 8#32)
        (IntOp.subi (IntOp.shrsi .vector (b.setWidth 32) 4#32) 16#32) (IntOp.shrsi .vector (b.setWidth 32) 4#32) := by
  revert b; decide +kernel

/-- Only the parity of the feature matters to its half. -/
theorem nibble_mod (k : ℕ) (b : BitVec 8) : nibble k b = nibble (k % 2) b := by
  unfold nibble; rw [Nat.mod_mod]

/-- Only the parity of the input feature chooses the half of the byte. -/
theorem weight_mod (k : ℕ) (b : BitVec 8) : weight k b = weight (k % 2) b := by
  unfold weight; rw [nibble_mod]

/-- A sum over 3584 features is the sum over the even ones plus the sum over the odd ones. -/
theorem sum_even_odd (f : Fin 3584 → EReal) :
    ∑ k, f k = (∑ p : Fin 1792, f ⟨2 * p.val, by omega⟩) + ∑ p : Fin 1792, f ⟨2 * p.val + 1, by omega⟩ := by
  rw [← (finProdFinEquiv (m := 1792) (n := 2)).sum_comp (fun k : Fin (1792 * 2) => f k), Fintype.sum_prod_type,
    ← Finset.sum_add_distrib]
  refine Finset.sum_congr rfl fun p _ => ?_
  rw [Fin.sum_univ_two]
  congr 2 <;> apply Fin.ext <;> simp [finProdFinEquiv] <;> omega

/-- The logit as the sum over the low halves plus the sum over the high halves of the packed bytes. -/
theorem logit_even_odd (hn : (⟨2, ![6912, 3584]⟩ : Shape).Idx → EReal) (w : (⟨2, ![1792, 65536]⟩ : Shape).Idx → BitVec 8)
    (s : (⟨2, ![28, 65536]⟩ : Shape).Idx → EReal) (row : Fin 6912) (col : Fin 65536) :
    logit hn w s row col.val
      = (∑ p : Fin 1792, hn (ix2 row ⟨2 * p.val, by omega⟩) * (weight 0 (w (ix2 p col)) * s (ix2 ⟨p.val / 64, by omega⟩ col)))
        + ∑ p : Fin 1792, hn (ix2 row ⟨2 * p.val + 1, by omega⟩)
            * (weight 1 (w (ix2 p col)) * s (ix2 ⟨p.val / 64, by omega⟩ col)) := by
  unfold logit
  rw [dif_pos col.isLt, sum_even_odd]
  refine congrArg₂ (· + ·) (Finset.sum_congr rfl fun p _ => ?_) (Finset.sum_congr rfl fun p _ => ?_)
  · have e₁ : (⟨(2 * p.val) / 2, by omega⟩ : Fin 1792) = p := Fin.ext (by show 2 * p.val / 2 = p.val; omega)
    have e₂ : (⟨(2 * p.val) / 128, by omega⟩ : Fin 28) = ⟨p.val / 64, by omega⟩ :=
      Fin.ext (by show 2 * p.val / 128 = p.val / 64; omega)
    have e₃ : 2 * p.val % 2 = 0 := by omega
    rw [e₁, e₂, weight_mod, e₃]
  · have e₁ : (⟨(2 * p.val + 1) / 2, by omega⟩ : Fin 1792) = p :=
      Fin.ext (by show (2 * p.val + 1) / 2 = p.val; omega)
    have e₂ : (⟨(2 * p.val + 1) / 128, by omega⟩ : Fin 28) = ⟨p.val / 64, by omega⟩ :=
      Fin.ext (by show (2 * p.val + 1) / 128 = p.val / 64; omega)
    have e₃ : (2 * p.val + 1) % 2 = 1 := by omega
    rw [e₁, e₂, weight_mod, e₃]

/-- A selection on an equality of words is a case split on it. -/
theorem select_eq (a b : BitVec 32) (p : Prop) [Decidable p] (h : a = b ↔ p) (u v : EReal) :
    Scalar.select (IntOp.cmpi .eq a b) u v = if p then u else v := by
  by_cases hp : p
  · rw [if_pos hp, h.mpr hp]; simp [IntOp.cmpi, Scalar.select]
  · rw [if_neg hp]
    have hb : (a == b) = false := beq_eq_false_iff_ne.mpr fun e => hp (h.mp e)
    simp [IntOp.cmpi, Scalar.select, hb]

end Cert.Logit

end
-- ==== Proof.LogSumExp.lean ====
/-
  The extended-real mathematics of a blocked log-sum-exp, free of any program.

  One row of logits is a function `x : ℕ → EReal`. A lane keeps a running maximum `runMax`, a running sum `runSum` of
  exponentials relative to that maximum, and the logit `runPick` of the target if it has been seen. The lemmas say how
  the three change when four more columns are read, and that 128 lanes combine to the row's maximum, sum and pick.
-/
module

public import Idealize.ShloMosaic.PureOps.Ideal

@[expose] public section

noncomputable section

namespace Cert.LogSumExp

open Idealize.ShloMosaic

/-- The exponential is nonnegative. -/
theorem exp_nonneg (a : EReal) : 0 ≤ Ideal.exp a := by
  induction a using EReal.rec with
  | bot => exact le_refl _
  | top => exact le_top
  | coe r => exact EReal.coe_nonneg.mpr (Real.exp_pos r).le

/-- Moving an exponential from one reference point `m` to a larger one `M`: the rescaling factor is `exp (m - M)`.
    It holds for infinite values too. -/
theorem exp_sub_mul {a m M : EReal} (h₁ : a ≤ m) (h₂ : m ≤ M) :
    Ideal.exp (a - m) * Ideal.exp (m - M) = Ideal.exp (a - M) := by
  have hb : ∀ b : EReal, (⊥ : EReal) - b = ⊥ := fun b => by rw [sub_eq_add_neg, EReal.bot_add]
  have e0 : Ideal.exp ⊥ = 0 := rfl
  have ht : ∀ b : EReal, b - (⊤ : EReal) = ⊥ := fun b => by rw [sub_eq_add_neg, EReal.neg_top, EReal.add_bot]
  induction M using EReal.rec with
  | top => rw [ht, ht, e0, mul_zero]
  | bot =>
    have hm := le_bot_iff.mp h₂; subst hm
    have ha := le_bot_iff.mp h₁; subst ha
    rw [hb, e0, mul_zero]
  | coe R =>
    induction m using EReal.rec with
    | top => exact absurd h₂ (not_le.mpr (EReal.coe_lt_top R))
    | bot =>
      have ha := le_bot_iff.mp h₁; subst ha
      rw [hb, hb, e0, mul_zero]
    | coe r =>
      induction a using EReal.rec with
      | top => exact absurd h₁ (not_le.mpr (EReal.coe_lt_top r))
      | bot => rw [hb, hb, e0, zero_mul]
      | coe s =>
        rw [← EReal.coe_sub, ← EReal.coe_sub, ← EReal.coe_sub]
        show (Real.exp (s - r) : EReal) * (Real.exp (r - R) : EReal) = (Real.exp (s - R) : EReal)
        rw [← EReal.coe_mul, ← Real.exp_add, sub_add_sub_cancel]

/-- A sum of nonnegative extended reals distributes over a product on the right. -/
theorem sum_mul {ι : Type*} (s : Finset ι) (f : ι → EReal) (hf : ∀ i, 0 ≤ f i) (b : EReal) :
    (∑ i ∈ s, f i) * b = ∑ i ∈ s, f i * b := by
  classical
  induction s using Finset.induction_on with
  | empty => simp
  | insert i s hi ih =>
    rw [Finset.sum_insert hi, Finset.sum_insert hi,
      EReal.right_distrib_of_nonneg (hf i) (Finset.sum_nonneg fun j _ => hf j), ih]

/-! ## One lane, over its first `n` columns -/

/-- The largest of the first `n` logits (`⊥` for none). -/
def runMax (x : ℕ → EReal) (n : ℕ) : EReal := (Finset.range n).sup x

/-- The sum of the first `n` exponentials relative to the maximum of the first `n`. -/
def runSum (x : ℕ → EReal) (n : ℕ) : EReal := ∑ k ∈ Finset.range n, Ideal.exp (x k - runMax x n)

/-- The logit of the one column among the first `n` that `hit` selects (`0` if none is selected). -/
def runPick (hit : ℕ → Prop) [DecidablePred hit] (x : ℕ → EReal) (n : ℕ) : EReal :=
  ∑ k ∈ Finset.range n, if hit k then x k else 0

/-- The maximum of no columns. -/
theorem runMax_zero (x : ℕ → EReal) : runMax x 0 = ⊥ := rfl
/-- The sum over no columns. -/
theorem runSum_zero (x : ℕ → EReal) : runSum x 0 = 0 := rfl
/-- The pick from no columns. -/
theorem runPick_zero (hit : ℕ → Prop) [DecidablePred hit] (x : ℕ → EReal) : runPick hit x 0 = 0 := rfl

/-- The maximum takes one more column. -/
theorem runMax_succ (x : ℕ → EReal) (n : ℕ) : runMax x (n + 1) = max (runMax x n) (x n) := by
  unfold runMax
  rw [Finset.range_add_one, Finset.sup_insert, sup_comm]

/-- More columns, no smaller maximum. -/
theorem runMax_mono (x : ℕ → EReal) {a b : ℕ} (h : a ≤ b) : runMax x a ≤ runMax x b :=
  Finset.sup_mono (Finset.range_subset_range.mpr h)

/-- Each column is at most the maximum. -/
theorem le_runMax (x : ℕ → EReal) {k n : ℕ} (h : k < n) : x k ≤ runMax x n :=
  Finset.le_sup (Finset.mem_range.mpr h)

/-- A lane's sum moved to any larger reference point. -/
theorem runSum_mul (x : ℕ → EReal) (n : ℕ) {M : EReal} (h : runMax x n ≤ M) :
    runSum x n * Ideal.exp (runMax x n - M) = ∑ k ∈ Finset.range n, Ideal.exp (x k - M) := by
  unfold runSum
  rw [sum_mul _ _ fun _ => exp_nonneg _]
  exact Finset.sum_congr rfl fun k hk => exp_sub_mul (le_runMax x (Finset.mem_range.mp hk)) h

/-- Four more columns: the maximum. -/
theorem runMax_four (x : ℕ → EReal) (n : ℕ) :
    runMax x (n + 4) = max (max (max (max (runMax x n) (x n)) (x (n + 1))) (x (n + 2))) (x (n + 3)) := by
  rw [runMax_succ, runMax_succ, runMax_succ, runMax_succ]

/-- Four more columns: the sum, the old one rescaled to the new maximum. -/
theorem runSum_four (x : ℕ → EReal) (n : ℕ) :
    runSum x (n + 4) = runSum x n * Ideal.exp (runMax x n - runMax x (n + 4))
      + Ideal.exp (x n - runMax x (n + 4)) + Ideal.exp (x (n + 1) - runMax x (n + 4))
      + Ideal.exp (x (n + 2) - runMax x (n + 4)) + Ideal.exp (x (n + 3) - runMax x (n + 4)) := by
  rw [runSum_mul x n (runMax_mono x (by omega))]
  conv_lhs => unfold runSum
  rw [Finset.sum_range_succ, Finset.sum_range_succ, Finset.sum_range_succ, Finset.sum_range_succ]

/-- One more column: the pick is replaced where the column is selected, at most one column being so. -/
theorem runPick_succ (hit : ℕ → Prop) [DecidablePred hit] (huniq : ∀ a b, hit a → hit b → a = b) (x : ℕ → EReal)
    (n : ℕ) : runPick hit x (n + 1) = if hit n then x n else runPick hit x n := by
  unfold runPick
  rw [Finset.sum_range_succ]
  by_cases h : hit n
  · rw [if_pos h, if_pos h, Finset.sum_eq_zero, zero_add]
    intro k hk
    exact if_neg fun hk' => absurd (huniq k n hk' h) (Finset.mem_range.mp hk).ne
  · rw [if_neg h, if_neg h, add_zero]

/-- Four more columns: the pick. -/
theorem runPick_four (hit : ℕ → Prop) [DecidablePred hit] (huniq : ∀ a b, hit a → hit b → a = b) (x : ℕ → EReal)
    (n : ℕ) : runPick hit x (n + 4) = if hit (n + 3) then x (n + 3) else if hit (n + 2) then x (n + 2)
      else if hit (n + 1) then x (n + 1) else if hit n then x n else runPick hit x n := by
  rw [runPick_succ hit huniq, runPick_succ hit huniq, runPick_succ hit huniq, runPick_succ hit huniq]

/-! ## 128 lanes: lane `l`'s `k`-th column is column `l + 128 k` of the row -/

/-- A sum over the row is the sum over the lanes of the sums over their columns. -/
theorem sum_lanes (f : ℕ → EReal) (n : ℕ) :
    ∑ l ∈ Finset.range 128, ∑ k ∈ Finset.range n, f (l + 128 * k) = ∑ c ∈ Finset.range (128 * n), f c := by
  rw [Finset.sum_comm]
  induction n with
  | zero => simp
  | succ n ih =>
    rw [Finset.sum_range_succ, ih, Nat.mul_succ, Finset.sum_range_add]
    congr 1
    exact Finset.sum_congr rfl fun l _ => by rw [Nat.add_comm]

/-- The row's maximum is the maximum over the lanes of their maxima. -/
theorem sup_lanes (x : ℕ → EReal) (n : ℕ) :
    (Finset.range 128).sup (fun l => runMax (fun k => x (l + 128 * k)) n) = runMax x (128 * n) := by
  apply le_antisymm
  · refine Finset.sup_le fun l hl => Finset.sup_le fun k hk => le_runMax x ?_
    have := Finset.mem_range.mp hl; have := Finset.mem_range.mp hk; omega
  · refine Finset.sup_le fun c hc => ?_
    have hc := Finset.mem_range.mp hc
    have h1 : x c = (fun k => x (c % 128 + 128 * k)) (c / 128) := by
      show x c = x (c % 128 + 128 * (c / 128)); rw [Nat.mod_add_div]
    rw [h1]
    refine (le_runMax (fun k => x (c % 128 + 128 * k)) (k := c / 128) (n := n) (by omega)).trans ?_
    exact Finset.le_sup (f := fun l => runMax (fun k => x (l + 128 * k)) n)
      (Finset.mem_range.mpr (Nat.mod_lt c (by norm_num)))

/-- The lanes' sums, each moved to the row's maximum, add to the row's sum. -/
theorem runSum_lanes (x : ℕ → EReal) (n : ℕ) :
    ∑ l ∈ Finset.range 128, runSum (fun k => x (l + 128 * k)) n
        * Ideal.exp (runMax (fun k => x (l + 128 * k)) n - runMax x (128 * n))
      = runSum x (128 * n) := by
  unfold runSum
  rw [← sum_lanes]
  refine Finset.sum_congr rfl fun l hl => ?_
  refine runSum_mul (fun k => x (l + 128 * k)) n ?_
  rw [← sup_lanes x n]
  exact Finset.le_sup (f := fun l => runMax (fun k => x (l + 128 * k)) n) hl

/-- The lanes' picks add to the row's pick. -/
theorem runPick_lanes (hit : ℕ → Prop) [DecidablePred hit] (x : ℕ → EReal) (n : ℕ) :
    ∑ l ∈ Finset.range 128, runPick (fun k => hit (l + 128 * k)) (fun k => x (l + 128 * k)) n
      = runPick hit x (128 * n) := by
  unfold runPick
  exact sum_lanes (fun c => if hit c then x c else 0) n

/-- The log-sum-exp of the first `n` columns. -/
def lse (x : ℕ → EReal) (n : ℕ) : EReal := Ideal.log (runSum x n) + runMax x n

/-! ## The same folds as vector reductions write them -/

/-- The bit pattern a maximum starts from reads as minus infinity. -/
theorem ofBits_negInf : Ideal.ofBits .f32 4286578688#32 = ⊥ := by simp [Ideal.ofBits, Ideal.ieee]

/-- A maximum reduction over an axis of `n` from minus infinity. -/
theorem fold_max (n : ℕ) (f : ℕ → EReal) :
    Finset.fold max (Ideal.ofBits .f32 4286578688#32) (fun i : Fin n => f i.val) Finset.univ
      = (Finset.range n).sup f := by
  rw [ofBits_negInf]
  show (Finset.univ : Finset (Fin n)).sup (fun i => f i.val) = _
  apply le_antisymm
  · exact Finset.sup_le fun i _ => Finset.le_sup (f := f) (Finset.mem_range.mpr i.isLt)
  · exact Finset.sup_le fun k hk =>
      Finset.le_sup (f := fun i : Fin n => f i.val) (Finset.mem_univ (⟨k, Finset.mem_range.mp hk⟩ : Fin n))

/-- Reduced over the lanes in those words, the lanes' maxima and sums give the row's log-sum-exp. -/
theorem lse_lanes (x : ℕ → EReal) (n : ℕ) :
    Ideal.log (∑ l : Fin 128, runSum (fun k => x (l.val + 128 * k)) n * Ideal.exp (runMax (fun k => x (l.val + 128 * k)) n
        - Finset.fold max (Ideal.ofBits .f32 4286578688#32) (fun l : Fin 128 => runMax (fun k => x (l.val + 128 * k)) n) Finset.univ))
      + Finset.fold max (Ideal.ofBits .f32 4286578688#32) (fun l : Fin 128 => runMax (fun k => x (l.val + 128 * k)) n) Finset.univ
      = lse x (128 * n) := by
  rw [fold_max 128 (fun l => runMax (fun k => x (l + 128 * k)) n), sup_lanes,
    Fin.sum_univ_eq_sum_range (fun l => runSum (fun k => x (l + 128 * k)) n
      * Ideal.exp (runMax (fun k => x (l + 128 * k)) n - runMax x (128 * n))) 128, runSum_lanes]
  rfl

/-- Written over the whole row at once, the maximum and the sum relative to it are the row's log-sum-exp. -/
theorem lse_row (x : ℕ → EReal) (n : ℕ) :
    Ideal.log (∑ k : Fin n, Ideal.exp (x k.val
        - Finset.fold max (Ideal.ofBits .f32 4286578688#32) (fun k : Fin n => x k.val) Finset.univ))
      + Finset.fold max (Ideal.ofBits .f32 4286578688#32) (fun k : Fin n => x k.val) Finset.univ
      = lse x n := by
  rw [fold_max n x, Fin.sum_univ_eq_sum_range (fun k => Ideal.exp (x k - (Finset.range n).sup x)) n]
  rfl

end Cert.LogSumExp

end
-- ==== Proof.Tile.lean ====
/-
  The values one grid point computes, at an index: the tile of logits, and the new maximum, sum and pick of a lane when
  the scratch holds the running values of the columns seen so far.
-/
module

public import proofs.«01_k».proof.Proof.Blocks
public import proofs.«01_k».proof.Proof.Cases
public import proofs.«01_k».proof.Proof.Logit
public import proofs.«01_k».proof.Proof.LogSumExp

@[expose] public section

set_option maxRecDepth 16384

noncomputable section

open Idealize.ShloMosaic Idealize.ShloMosaic.TcCoe Idealize.SL.Sem
open Cert.LogSumExp

namespace Cert.KernelIdeal.Head

open Cert.KernelIdeal Cert.KernelIdeal.Gen

variable (m : (ℓ : Loc nD τ sig) → Buf (Elt Ideal) ℓ)

/-- The logits of an array row, by column. -/
def x (c : Dev nD) (row : Fin 6912) : ℕ → EReal :=
  Cert.Logit.logit (m ((c : Thread nD τ).loc main_arg0)) (m ((c : Thread nD τ).loc main_arg1))
    (m ((c : Thread nD τ).loc main_arg2)) row

/-- The logits of one lane of an array row: every 128th column. -/
def lane (c : Dev nD) (row : Fin 6912) (l : Fin 128) : ℕ → EReal := fun k => x m c row (l.val + 128 * k)

/-- The target of an array row. -/
def target (c : Dev nD) (row : Fin 6912) : BitVec 32 := m ((c : Thread nD τ).loc main_arg3) (ix1 row)

/-- Whether a row's target is a lane's `k`-th column. -/
abbrev hit (c : Dev nD) (row : Fin 6912) (l : Fin 128) (k : ℕ) : Prop := (target m c row).toNat = l.val + 128 * k

/-- A tile of logits from any three blocks. -/
theorem pay4_apply (x0 : Vec Ideal S1152x3584 .bf16) (x1 : Vec Ideal S1792x512 .i8) (x2 : Vec Ideal S28x512 .f32)
    (r : Fin 1152) (l : Fin 512) :
    k0_pay4 (F := Ideal) x1 x2 x0 (ix2 r l)
      = ∑ k : Fin 3584, x0 (ix2 r k) * (Cert.Logit.weight k (x1 (ix2 ⟨k.val / 2, by omega⟩ l))
          * x2 (ix2 ⟨k.val / 128, by omega⟩ l)) := by
  pointwise [k0_pay4]
  rfl

/-- A point's tile of logits. -/
theorem tile_apply (c : Dev nD) (t : Fin cfg0.N) (r : Fin 1152) (l : Fin 512) :
    k0_pay4 (F := Ideal) (iblk m c 1 t) (iblk m c 2 t) (iblk m c 0 t) (ix2 r l) = x m c (row t r) (col t l).val := by
  rw [pay4_apply]
  unfold x Cert.Logit.logit
  rw [dif_pos (col t l).isLt]
  refine Finset.sum_congr rfl fun k _ => ?_
  rw [iblk0_apply, iblk1_apply, iblk2_apply]

/-- The tile's `i`-th quarter is every lane's `4 (t % 128) + i`-th column. -/
theorem quarter_apply (c : Dev nD) (t : Fin cfg0.N) (r : Fin 1152) (l : Fin 128) (i : ℕ) (hi : i < 4)
    (h : 128 * i + l.val < 512) :
    k0_pay4 (F := Ideal) (iblk m c 1 t) (iblk m c 2 t) (iblk m c 0 t) (ix2 r ⟨128 * i + l.val, h⟩)
      = lane m c (row t r) l (4 * (t.val % 128) + i) := by
  rw [tile_apply]
  unfold lane
  congr 1
  show 512 * (t.val % 128) + (128 * i + l.val) = _
  omega

/-- The tile's four quarters, as the body slices them. -/
theorem quarters (c : Dev nD) (t : Fin cfg0.N) (r : Fin 1152) (l : Fin 128) :
    k0_pay8 (F := Ideal) (iblk m c 1 t) (iblk m c 2 t) (iblk m c 0 t) (ix2 r l) = lane m c (row t r) l (4 * (t.val % 128))
    ∧ k0_pay9 (F := Ideal) (iblk m c 1 t) (iblk m c 2 t) (iblk m c 0 t) (ix2 r l) = lane m c (row t r) l (4 * (t.val % 128) + 1)
    ∧ k0_pay10 (F := Ideal) (iblk m c 1 t) (iblk m c 2 t) (iblk m c 0 t) (ix2 r l) = lane m c (row t r) l (4 * (t.val % 128) + 2)
    ∧ k0_pay11 (F := Ideal) (iblk m c 1 t) (iblk m c 2 t) (iblk m c 0 t) (ix2 r l) = lane m c (row t r) l (4 * (t.val % 128) + 3) := by
  refine ⟨?_, ?_, ?_, ?_⟩
  · rw [← Nat.add_zero (4 * (t.val % 128)), ← quarter_apply m c t r l 0 (by omega) (by omega)]
    pointwise [k0_pay8]
  · rw [← quarter_apply m c t r l 1 (by omega) (by omega)]
    pointwise [k0_pay9]
  · rw [← quarter_apply m c t r l 2 (by omega) (by omega)]
    pointwise [k0_pay10]
  · rw [← quarter_apply m c t r l 3 (by omega) (by omega)]
    pointwise [k0_pay11]

/-- The new maximum of a lane. -/
theorem newMax_apply (c : Dev nD) (t : Fin cfg0.N) (r : Fin 1152) (l : Fin 128) (xm : Vec Ideal S1152x128 .f32)
    (hm : xm (ix2 r l) = runMax (lane m c (row t r) l) (4 * (t.val % 128))) :
    newMax (F := Ideal) (iblk m c 0 t) (iblk m c 1 t) (iblk m c 2 t) xm (ix2 r l)
      = runMax (lane m c (row t r) l) (4 * (t.val % 128) + 4) := by
  obtain ⟨h0, h1, h2, h3⟩ := quarters m c t r l
  rw [runMax_four, ← h0, ← h1, ← h2, ← h3, ← hm]
  rfl

/-- The new sum of a lane. -/
theorem newSum_apply (c : Dev nD) (t : Fin cfg0.N) (r : Fin 1152) (l : Fin 128) (xm xl : Vec Ideal S1152x128 .f32)
    (hm : xm (ix2 r l) = runMax (lane m c (row t r) l) (4 * (t.val % 128)))
    (hl : xl (ix2 r l) = runSum (lane m c (row t r) l) (4 * (t.val % 128))) :
    newSum (F := Ideal) (iblk m c 0 t) (iblk m c 1 t) (iblk m c 2 t) xm xl (ix2 r l)
      = runSum (lane m c (row t r) l) (4 * (t.val % 128) + 4) := by
  obtain ⟨h0, h1, h2, h3⟩ := quarters m c t r l
  rw [runSum_four, ← newMax_apply m c t r l xm hm, ← h0, ← h1, ← h2, ← h3, ← hm, ← hl]
  rfl

/-- The kernel's comparison of the target with a column, in 32-bit words: no wrap-around is mistaken for a hit. -/
theorem hit_iff (g : BitVec 32) (l q i : ℕ) (hl : l < 128) (hq : q < 128) (hi : i < 4) :
    g - BitVec.ofNat 32 l - BitVec.ofNat 32 q * 512#32 = BitVec.ofNat 32 (128 * i) ↔ g.toNat = l + 128 * (4 * q + i) := by
  have := g.isLt
  rw [← BitVec.toNat_inj]
  simp only [BitVec.toNat_sub, BitVec.toNat_mul, BitVec.toNat_ofNat]
  omega

/-- The new pick of a lane. -/
theorem newPick_apply (c : Dev nD) (t : Fin cfg0.N) (r : Fin 1152) (l : Fin 128) (xz : Vec Ideal S1152x128 .f32)
    (hz : xz (ix2 r l) = runPick (hit m c (row t r) l) (lane m c (row t r) l) (4 * (t.val % 128))) :
    newPick (F := Ideal) (grid0.coords t) (iblk m c 0 t) (iblk m c 1 t) (iblk m c 2 t) (iblk m c 3 t) xz (ix2 r l)
      = runPick (hit m c (row t r) l) (lane m c (row t r) l) (4 * (t.val % 128) + 4) := by
  obtain ⟨h0, h1, h2, h3⟩ := quarters m c t r l
  have hq : t.val % 128 < 128 := Nat.mod_lt _ (by norm_num)
  rw [runPick_four _ (fun a b ha hb => by unfold hit at ha hb; omega), ← hz, ← h0, ← h1, ← h2, ← h3]
  pointwise [newPick, k0_pay15]
  rw [iblk3_apply, coord1]
  have key := fun i hi => hit_iff (target m c (row t r)) l.val (t.val % 128) i l.isLt hq hi
  exact (Cert.Logit.select_eq _ _ _ (key 3 (by omega)) _ _).trans (congrArg _ ((Cert.Logit.select_eq _ _ _ (key 2 (by omega)) _ _).trans
    (congrArg _ ((Cert.Logit.select_eq _ _ _ (key 1 (by omega)) _ _).trans (congrArg _ (Cert.Logit.select_eq _ _ _ (key 0 (by omega)) _ _))))))

end Cert.KernelIdeal.Head

end
-- ==== Proof.Fold.lean ====
/-
  The invariant of the sweep over the column blocks, by induction on the grid point, and the two output arrays at an
  index: the log-sum-exp of the row and the target's logit relative to it.
-/
module

public import proofs.«01_k».proof.Proof.Tile

@[expose] public section

set_option maxRecDepth 16384

noncomputable section

open Idealize.ShloMosaic Idealize.ShloMosaic.TcCoe Idealize.SL.Sem
open Cert.LogSumExp

namespace Cert.KernelIdeal.Head

open Cert.KernelIdeal Cert.KernelIdeal.Gen

variable (m : (ℓ : Loc nD τ sig) → Buf (Elt Ideal) ℓ)

/-- Scratch contents holding, for every row of point `t`'s row block and every lane, the running maximum, sum and pick
    over the lane's first `n` columns. -/
def Holds (c : Dev nD) (t : Fin cfg0.N) (n : ℕ) (xm xl xz : Vec Ideal S1152x128 .f32) : Prop :=
  ∀ (r : Fin 1152) (l : Fin 128), xm (ix2 r l) = runMax (lane m c (row t r) l) n
    ∧ xl (ix2 r l) = runSum (lane m c (row t r) l) n
    ∧ xz (ix2 r l) = runPick (hit m c (row t r) l) (lane m c (row t r) l) n

/-- What the first point of a row block writes before it reads: the values over no columns. -/
theorem holds_init (c : Dev nD) (t : Fin cfg0.N) : Holds m c t 0 (k0_pay5 (F := Ideal)) (k0_pay6 (F := Ideal)) (k0_pay7 (F := Ideal)) := by
  intro r l
  rw [runMax_zero, runSum_zero, runPick_zero]
  refine ⟨?_, ?_, ?_⟩
  · pointwise [k0_pay5]
    exact ofBits_negInf
  · pointwise [k0_pay6]
  · pointwise [k0_pay7]

/-- One point's step: four more columns in every lane. -/
theorem holds_step (c : Dev nD) (t : Fin cfg0.N) (xm xl xz : Vec Ideal S1152x128 .f32)
    (h : Holds m c t (4 * (t.val % 128)) xm xl xz) :
    Holds m c t (4 * (t.val % 128) + 4) (newMax (iblk m c 0 t) (iblk m c 1 t) (iblk m c 2 t) xm)
      (newSum (iblk m c 0 t) (iblk m c 1 t) (iblk m c 2 t) xm xl)
      (newPick (grid0.coords t) (iblk m c 0 t) (iblk m c 1 t) (iblk m c 2 t) (iblk m c 3 t) xz) := fun r l =>
  ⟨newMax_apply m c t r l xm (h r l).1, newSum_apply m c t r l xm xl (h r l).1 (h r l).2.1,
    newPick_apply m c t r l xz (h r l).2.2⟩

/-- The scratch a point of a row block reads, not its first: what the point before it left. -/
theorem holds_pred (c : Dev nD) (n : ℕ) (hn : n + 1 < cfg0.N) (h0 : ¬(n + 1) % 128 = 0) (xm xl xz : Vec Ideal S1152x128 .f32)
    (h : Holds m c ⟨n, Nat.lt_of_succ_lt hn⟩ (4 * (n % 128) + 4) xm xl xz) :
    Holds m c ⟨n + 1, hn⟩ (4 * ((n + 1) % 128)) xm xl xz := by
  have e : 4 * ((n + 1) % 128) = 4 * (n % 128) + 4 := by omega
  intro r l
  have hr : row ⟨n + 1, hn⟩ r = row ⟨n, Nat.lt_of_succ_lt hn⟩ r := by
    unfold row; apply Fin.ext; show 1152 * ((n + 1) / 128) + r.val = 1152 * (n / 128) + r.val; omega
  rw [e, hr]
  exact h r l

/-- THE INVARIANT: after point `n` the scratch holds the values over the first `4 (n % 128) + 4` columns of each lane. -/
theorem holds (c : Dev nD) : ∀ (n : ℕ) (hn : n < cfg0.N), Holds m c ⟨n, hn⟩ (4 * (n % 128) + 4)
    (outsAt0 m c n hn).2.2.1 (outsAt0 m c n hn).2.2.2.1 (outsAt0 m c n hn).2.2.2.2
  | n, hn => by
    by_cases h0 : n % 128 = 0
    · have h1 : ¬n % 128 = 127 := by omega
      rw [outsAt0_A m c ⟨n, hn⟩ h0 h1]
      dsimp only
      rw [max_A, sum_A, pick_A]
      refine holds_step m c ⟨n, hn⟩ _ _ _ ?_
      show Holds m c ⟨n, hn⟩ (4 * (n % 128)) _ _ _
      rw [h0]
      exact holds_init m c _
    · match n, hn, h0 with
      | 0, hn, h0 => exact absurd (Nat.zero_mod _) h0
      | n + 1, hn, h0 =>
        have ih := holds_pred m c n hn h0 _ _ _ (holds c n (Nat.lt_of_succ_lt hn))
        by_cases h1 : (n + 1) % 128 = 127
        · rw [outsAt0_C m c ⟨n + 1, hn⟩ h0 h1]
          dsimp only
          rw [max_C, sum_C, pick_C]
          exact holds_step m c ⟨n + 1, hn⟩ _ _ _ ih
        · rw [outsAt0_B m c ⟨n + 1, hn⟩ h0 h1]
          dsimp only
          rw [max_B, sum_B, pick_B]
          exact holds_step m c ⟨n + 1, hn⟩ _ _ _ ih

/-- The log of the number of columns, as the kernel and its reference both write it. -/
abbrev logV : EReal := Ideal.ofBits .f32 1093759512#32

/-- The log-sum-exp payload over complete lanes. -/
theorem pay2_apply (c : Dev nD) (t : Fin cfg0.N) (xm xl xz : Vec Ideal S1152x128 .f32) (h : Holds m c t 512 xm xl xz)
    (r : Fin 1152) (l : Fin 128) :
    k0_pay2 (F := Ideal) xm xl (ix2 r l) = lse (x m c (row t r)) 65536 - logV := by
  pointwise [k0_pay2, k0_pay1]
  simp only [(h r _).1, (h r _).2.1]
  rw [← lse_lanes (x m c (row t r)) 512]
  rfl

/-- The log-probability payload over complete lanes. -/
theorem pay3_apply (c : Dev nD) (t : Fin cfg0.N) (xm xl xz : Vec Ideal S1152x128 .f32) (h : Holds m c t 512 xm xl xz)
    (r : Fin 1152) (l : Fin 128) :
    k0_pay3 (F := Ideal) xm xl xz (ix2 r l)
      = runPick (fun k => (target m c (row t r)).toNat = k) (x m c (row t r)) 65536 - lse (x m c (row t r)) 65536 + logV := by
  pointwise [k0_pay3, k0_pay1]
  simp only [(h r _).1, (h r _).2.1, (h r _).2.2]
  rw [← lse_lanes (x m c (row t r)) 512, ← runPick_lanes _ (x m c (row t r)) 512, ← Fin.sum_univ_eq_sum_range
    (fun l => runPick (fun k => (target m c (row t r)).toNat = l + 128 * k) (fun k => x m c (row t r) (l + 128 * k)) 512) 128]
  rfl

/-- What the last point of a row block leaves in the two outputs. -/
theorem outs_last (c : Dev nD) (n : ℕ) (hn : n < cfg0.N) (h1 : n % 128 = 127) (r : Fin 1152) (l : Fin 128) :
    (outsAt0 m c n hn).1 (ix2 r l) = lse (x m c (row ⟨n, hn⟩ r)) 65536 - logV
    ∧ (outsAt0 m c n hn).2.1 (ix2 r l)
      = runPick (fun k => (target m c (row ⟨n, hn⟩ r)).toNat = k) (x m c (row ⟨n, hn⟩ r)) 65536
          - lse (x m c (row ⟨n, hn⟩ r)) 65536 + logV := by
  have h0 : ¬n % 128 = 0 := by omega
  have e : 4 * (n % 128) + 4 = 512 := by omega
  have H := holds m c n hn
  rw [e, outsAt0_C m c ⟨n, hn⟩ h0 h1] at H
  dsimp only at H
  rw [max_C, sum_C, pick_C] at H
  rw [outsAt0_C m c ⟨n, hn⟩ h0 h1]
  dsimp only
  rw [lse_C, logprob_C]
  exact ⟨pay2_apply m c ⟨n, hn⟩ _ _ _ H r l, pay3_apply m c ⟨n, hn⟩ _ _ _ H r l⟩

/-- The kernel's first result at an index: the row's log-sum-exp less the log of the number of columns. -/
theorem G4_apply (c : Dev nD) (r : Fin 6912) (l : Fin 128) :
    Value.G4 m c (ix2 r l) = lse (x m c r) 65536 - logV := by
  have hN : cfg0.N = 768 := N_0
  have hp : Value.pt4Of (ix2 r l) = 128 * (r.val / 1152) + 127 := by
    show 128 * (1 * (r.val / 1152 - 0) + 1 * (l.val / 128 - 0)) + 127 = _; omega
  have hlt : Value.pt4Of (ix2 r l) < cfg0.N := by omega
  have hloc : Value.loc4Of (ix2 r l) = ix2 (⟨r.val % 1152, Nat.mod_lt _ (by norm_num)⟩ : Fin 1152) l := by
    funext a; apply Fin.ext
    match a with
    | ⟨0, _⟩ => rfl
    | ⟨1, _⟩ => show l.val % 128 = l.val; omega
  have hrow : row ⟨Value.pt4Of (ix2 r l), hlt⟩ ⟨r.val % 1152, Nat.mod_lt _ (by norm_num)⟩ = r := by
    unfold row; apply Fin.ext; show 1152 * (Value.pt4Of (ix2 r l) / 128) + r.val % 1152 = r.val; rw [hp]; omega
  unfold Value.G4
  rw [dif_pos hlt, ← Value.outsAt0_sweep m c _ hlt, hloc, (outs_last m c _ hlt (by omega) _ _).1, hrow]

/-- The kernel's second result at an index: the target's logit less the row's log-sum-exp, plus the log of the number
    of columns. -/
theorem G5_apply (c : Dev nD) (r : Fin 6912) (l : Fin 128) :
    Value.G5 m c (ix2 r l)
      = runPick (fun k => (target m c r).toNat = k) (x m c r) 65536 - lse (x m c r) 65536 + logV := by
  have hN : cfg0.N = 768 := N_0
  have hp : Value.pt5Of (ix2 r l) = 128 * (r.val / 1152) + 127 := by
    show 128 * (1 * (r.val / 1152 - 0) + 1 * (l.val / 128 - 0)) + 127 = _; omega
  have hlt : Value.pt5Of (ix2 r l) < cfg0.N := by omega
  have hloc : Value.loc5Of (ix2 r l) = ix2 (⟨r.val % 1152, Nat.mod_lt _ (by norm_num)⟩ : Fin 1152) l := by
    funext a; apply Fin.ext
    match a with
    | ⟨0, _⟩ => rfl
    | ⟨1, _⟩ => show l.val % 128 = l.val; omega
  have hrow : row ⟨Value.pt5Of (ix2 r l), hlt⟩ ⟨r.val % 1152, Nat.mod_lt _ (by norm_num)⟩ = r := by
    unfold row; apply Fin.ext; show 1152 * (Value.pt5Of (ix2 r l) / 128) + r.val % 1152 = r.val; rw [hp]; omega
  unfold Value.G5
  rw [dif_pos hlt, ← Value.outsAt0_sweep m c _ hlt, hloc, (outs_last m c _ hlt (by omega) _ _).2, hrow]

end Cert.KernelIdeal.Head

end
-- ==== Proof.RefValue.lean ====
/-
  The reference's two results at an index: the same log-sum-exp and pick, written over the whole row at once.
-/
module

public import proofs.«01_k».proof.Proof.Gen.ReferenceIdeal.Run
public import proofs.«01_k».proof.Proof.Logit
public import proofs.«01_k».proof.Proof.LogSumExp

@[expose] public section

set_option maxRecDepth 16384

noncomputable section

open Idealize.ShloMosaic Idealize.ShloMosaic.TcCoe Idealize.SL.Sem
open Cert.LogSumExp

namespace Cert.ReferenceIdeal.Head

open Cert.ReferenceIdeal Cert.ReferenceIdeal.Gen Cert.ReferenceIdeal.Value

/-- The dequantised weights of one half of the packed bytes: `q` its four-bit fields before sign extension. -/
def half (q : IVec S1792x65536 32) (s : FVec Ideal S28x65536 .f32) : FVec Ideal S1792x65536 .bf16 :=
  shapeCast _ (mulf (shapeCast _ (truncf .bf16 (sitofp .f32 (select (cmpi .sge q (broadcastInDim S1792x65536 ![] bcast_S_S1792x65536 (constantI S_ 32 8#32))) (subi q (broadcastInDim S1792x65536 ![] bcast_S_S1792x65536 (constantI S_ 32 16#32))) q)) bitsLt_bf16_f32) shapeCasts_S1792x65536_S28x64x65536) (broadcastInDim S28x64x65536 ![0, 1, 2] bcast_S28x1x65536_S28x64x65536_0_1_2 (broadcastInDim S28x1x65536 ![0, 2] bcast_S28x65536_S28x1x65536_0_2 (truncf .bf16 s bitsLt_bf16_f32)))) shapeCasts_S28x64x65536_S1792x65536

/-- The reference's logits, of its arrays. -/
def logits (hn : FVec Ideal S6912x3584 .bf16) (w : IVec S1792x65536 8) (s : FVec Ideal S28x65536 .f32) :
    FVec Ideal S6912x65536 .f32 :=
  addf (Host.dotGeneral dot_S6912x1792_S1792x65536_S6912x65536_1_0_0_1_n_n none (Host.slice S6912x1792 ![0, 0] ![1, 2] hn slicesBy_S6912x3584_S6912x1792_0s1_0s2) (half (andi (extui 32 w natLt_8_32) (broadcastInDim S1792x65536 ![] bcast_S_S1792x65536 (constantI S_ 32 15#32))) s))
    (Host.dotGeneral dot_S6912x1792_S1792x65536_S6912x65536_1_0_0_1_n_n none (Host.slice S6912x1792 ![0, 1] ![1, 2] hn slicesBy_S6912x3584_S6912x1792_0s1_1s2) (half (Host.shrsi (extui 32 w natLt_8_32) (broadcastInDim S1792x65536 ![] bcast_S_S1792x65536 (constantI S_ 32 4#32))) s))

/-- Each row's maximum. -/
def rowMax (X : FVec Ideal S6912x65536 .f32) : FVec Ideal S6912 .f32 :=
  Host.reduce FloatOps.maximumf X (constant S_ .f32 0xFF800000#32) reducesTo_S6912x65536_S6912_d1 h_S_

/-- Each row's log-sum-exp. -/
def rowLse (X : FVec Ideal S6912x65536 .f32) : FVec Ideal S6912 .f32 :=
  addf (Host.log (Host.reduceAdd (Host.exp (subf X (broadcastInDim S6912x65536 ![0, 1] bcast_S6912x1_S6912x65536_0_1 (broadcastInDim S6912x1 ![0] bcast_S6912_S6912x1_0 (rowMax X))))) (constant S_ .f32 0x00000000#32) reducesTo_S6912x65536_S6912_d1 h_S_)) (rowMax X)

/-- Each row's logit at its target. -/
def rowPick (X : FVec Ideal S6912x65536 .f32) (t : IVec S6912 32) : FVec Ideal S6912 .f32 :=
  Host.reduceAdd (select (cmpi .eq (broadcastInDim S6912x65536 ![0, 1] bcast_S6912x1_S6912x65536_0_1 (broadcastInDim S6912x1 ![0] bcast_S6912_S6912x1_0 t)) (iotaInDim S6912x65536 32 1)) X (broadcastInDim S6912x65536 ![] bcast_S_S6912x65536 (id (constant S_ .f32 0x00000000#32)))) (constant S_ .f32 0x00000000#32) reducesTo_S6912x65536_S6912_d1 h_S_

/-- A row value in all 128 lanes. -/
def lanes (v : FVec Ideal S6912 .f32) : FVec Ideal S6912x128 .f32 :=
  broadcastInDim S6912x128 ![0, 1] bcast_S6912x1_S6912x128_0_1 (broadcastInDim S6912x1 ![0] bcast_S6912_S6912x1_0 v)

/-- The log of the number of columns, in every row. -/
def logV : FVec Ideal S6912 .f32 := broadcastInDim S6912 ![] bcast_S_S6912 (constant S_ .f32 0x41317218#32)

variable (m : (ℓ : Loc nD τ sig) → Buf (Elt Ideal) ℓ) (c : Dev nD)

/-- The logits of the launched arrays. -/
abbrev X : FVec Ideal S6912x65536 .f32 :=
  logits (m ((c.tc : Thread nD τ).loc main_arg0)) (m ((c.tc : Thread nD τ).loc main_arg1)) (m ((c.tc : Thread nD τ).loc main_arg2))

/-- The first result, by name. -/
theorem res0_eq : res_out0 m c = lanes (subf (rowLse (X m c)) logV) := rfl

/-- The second result, by name. -/
theorem res1_eq : res_out1 m c
    = lanes (addf (subf (rowPick (X m c) (m ((c.tc : Thread nD τ).loc main_arg3))) (rowLse (X m c))) logV) := rfl

/-- A dequantised weight: the field's signed value times its group's scale. -/
theorem half_apply (q : IVec S1792x65536 32) (s : FVec Ideal S28x65536 .f32) (p : Fin 1792) (v : Fin 65536) :
    half q s (ix2 p v) = (((Scalar.select (IntOp.cmpi .sge (q (ix2 p v)) 8#32) (IntOp.subi (q (ix2 p v)) 16#32)
      (q (ix2 p v))).toInt : ℝ) : EReal) * s (ix2 ⟨p.val / 64, by omega⟩ v) := by
  pointwise [half]
  rfl

/-- The shift of a byte by four does not depend on which unit does it. -/
theorem shr_host (b : BitVec 8) : IntOp.shrsi .host (b.setWidth 32) 4#32 = IntOp.shrsi .vector (b.setWidth 32) 4#32 := by
  revert b; decide +kernel

/-- The reference's logit is the logit. -/
theorem logits_apply (hn : FVec Ideal S6912x3584 .bf16) (w : IVec S1792x65536 8) (s : FVec Ideal S28x65536 .f32) (r : Fin 6912)
    (v : Fin 65536) : logits hn w s (ix2 r v) = Cert.Logit.logit hn w s r v.val := by
  rw [Cert.Logit.logit_even_odd]
  pointwise [logits]
  simp only [half_apply]
  pointwise []
  unfold Cert.Logit.weight
  simp only [Cert.Logit.nibble_even, Cert.Logit.nibble_odd, shr_host, Nat.add_comm 1]

/-- The reference's log-sum-exp of a row of values `f`. -/
theorem rowLse_apply (Y : FVec Ideal S6912x65536 .f32) (r : Fin 6912) (f : ℕ → EReal) (h : ∀ v : Fin 65536, Y (ix2 r v) = f v.val) :
    rowLse Y (ix1 r) = lse f 65536 := by
  pointwise [rowLse, rowMax]
  simp only [h]
  exact lse_row f 65536

/-- The reference's pick from a row of values `f`. -/
theorem rowPick_apply (Y : FVec Ideal S6912x65536 .f32) (t : IVec S6912 32) (r : Fin 6912) (f : ℕ → EReal) (h : ∀ v : Fin 65536, Y (ix2 r v) = f v.val) :
    rowPick Y t (ix1 r) = runPick (fun k => (t (ix1 r)).toNat = k) f 65536 := by
  pointwise [rowPick]
  unfold runPick
  rw [← Fin.sum_univ_eq_sum_range (fun k => if (t (ix1 r)).toNat = k then f k else 0) 65536]
  refine Finset.sum_congr rfl fun v _ => ?_
  have hz : (id (constant S_ .f32 0#32) : FVec Ideal S_ .f32) ix0 = 0 := by
    rw [id_eq]; pointwise []
  rw [hz, h, Cert.Logit.select_eq _ _ ((t (ix1 r)).toNat = v.val) (by
    rw [← BitVec.toNat_inj, BitVec.toNat_ofNat, Nat.mod_eq_of_lt (by omega)])]

/-- The logits of row `row` as a function of the column. -/
abbrev x (row : Fin 6912) : ℕ → EReal :=
  Cert.Logit.logit (m ((c.tc : Thread nD τ).loc main_arg0)) (m ((c.tc : Thread nD τ).loc main_arg1))
    (m ((c.tc : Thread nD τ).loc main_arg2)) row

/-- The row's target column. -/
abbrev target (row : Fin 6912) : BitVec 32 := m ((c.tc : Thread nD τ).loc main_arg3) (ix1 row)

/-- The reference's first result at an index. -/
theorem res0_apply (r : Fin 6912) (l : Fin 128) :
    res_out0 m c (ix2 r l) = lse (x m c r) 65536 - Ideal.ofBits .f32 1093759512#32 := by
  rw [res0_eq]
  pointwise [lanes, logV]
  rw [rowLse_apply (X m c) r (x m c r) fun v => logits_apply _ _ _ r v]

/-- The reference's second result at an index. -/
theorem res1_apply (r : Fin 6912) (l : Fin 128) :
    res_out1 m c (ix2 r l)
      = runPick (fun k => (target m c r).toNat = k) (x m c r) 65536 - lse (x m c r) 65536
          + Ideal.ofBits .f32 1093759512#32 := by
  rw [res1_eq]
  pointwise [lanes, logV]
  rw [rowLse_apply (X m c) r (x m c r) fun v => logits_apply _ _ _ r v,
    rowPick_apply (X m c) _ r (x m c r) fun v => logits_apply _ _ _ r v]

end Cert.ReferenceIdeal.Head

end
-- ==== Proof.Equal.lean ====
/-
  The kernel and the reference end with equal results: both results of both programs at an index are the same
  expression of the argument arrays.
-/
module

public import proofs.«01_k».proof.Proof.Fold
public import proofs.«01_k».proof.Proof.RefValue

@[expose] public section

set_option maxRecDepth 16384

noncomputable section

open Idealize.ShloMosaic Idealize.ShloMosaic.TcCoe Idealize.SL.Sem

namespace Cert.Equal

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)
  (h0 : m' ((c.tc : Thread ReferenceIdeal.nD ReferenceIdeal.τ).loc ReferenceIdeal.main_arg0)
    = m ((c.tc : Thread KernelIdeal.nD KernelIdeal.τ).loc KernelIdeal.main_arg0))
  (h1 : m' ((c.tc : Thread ReferenceIdeal.nD ReferenceIdeal.τ).loc ReferenceIdeal.main_arg1)
    = m ((c.tc : Thread KernelIdeal.nD KernelIdeal.τ).loc KernelIdeal.main_arg1))
  (h2 : m' ((c.tc : Thread ReferenceIdeal.nD ReferenceIdeal.τ).loc ReferenceIdeal.main_arg2)
    = m ((c.tc : Thread KernelIdeal.nD KernelIdeal.τ).loc KernelIdeal.main_arg2))
  (h3 : m' ((c.tc : Thread ReferenceIdeal.nD ReferenceIdeal.τ).loc ReferenceIdeal.main_arg3)
    = m ((c.tc : Thread KernelIdeal.nD KernelIdeal.τ).loc KernelIdeal.main_arg3))

include h0 h1 h2 in
/-- The two programs' logits are the same function of equal arrays. -/
theorem x_eq (r : Fin 6912) : ReferenceIdeal.Head.x m' c r = KernelIdeal.Head.x m c r := by
  unfold KernelIdeal.Head.x ReferenceIdeal.Head.x
  rw [h0, h1, h2]

include h3 in
/-- The two programs' targets are the same. -/
theorem target_eq (r : Fin 6912) : ReferenceIdeal.Head.target m' c r = KernelIdeal.Head.target m c r := by
  unfold KernelIdeal.Head.target ReferenceIdeal.Head.target
  rw [h3]

/-- An index of a result array by its two coordinates. -/
theorem idx_eq (i : (⟨2, ![6912, 128]⟩ : Shape).Idx) : i = ix2 (i 0) (i 1) := by
  funext a
  match a with
  | ⟨0, _⟩ => rfl
  | ⟨1, _⟩ => rfl

include h0 h1 h2 in
/-- The first results at an index. -/
theorem lse_at (r : Fin 6912) (l : Fin 128) :
    ReferenceIdeal.Value.res_out0 m' c (ix2 r l) = KernelIdeal.Value.G4 m c (ix2 r l) := by
  refine (ReferenceIdeal.Head.res0_apply m' c r l).trans (Eq.trans ?_ (KernelIdeal.Head.G4_apply m c r l).symm)
  rw [x_eq m m' c h0 h1 h2 r]

include h0 h1 h2 h3 in
/-- The second results at an index. -/
theorem logprob_at (r : Fin 6912) (l : Fin 128) :
    ReferenceIdeal.Value.res_out1 m' c (ix2 r l) = KernelIdeal.Value.G5 m c (ix2 r l) := by
  refine (ReferenceIdeal.Head.res1_apply m' c r l).trans (Eq.trans ?_ (KernelIdeal.Head.G5_apply m c r l).symm)
  rw [x_eq m m' c h0 h1 h2 r, target_eq m m' c h3 r]

include h0 h1 h2 in
/-- The first results, the log-sum-exps, are equal. -/
theorem lse_eq : ReferenceIdeal.Value.res_out0 m' c = KernelIdeal.Value.G4 m c :=
  funext fun i => (congrArg _ (idx_eq i)).trans
    ((lse_at m m' c h0 h1 h2 (i 0) (i 1)).trans (congrArg (KernelIdeal.Value.G4 m c) (idx_eq i).symm))

include h0 h1 h2 h3 in
/-- The second results, the log-probabilities of the targets, are equal. -/
theorem logprob_eq : ReferenceIdeal.Value.res_out1 m' c = KernelIdeal.Value.G5 m c :=
  funext fun i => (congrArg _ (idx_eq i)).trans
    ((logprob_at m m' c h0 h1 h2 h3 (i 0) (i 1)).trans (congrArg (KernelIdeal.Value.G5 m c) (idx_eq i).symm))

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged, and has no semaphore to leave nonzero. -/
theorem frame_reference : Cert.quiescent_ReferenceIdeal := fun m ρ _ =>
  (θ_run _ _ _).mono (fun r h => ⟨fun c => (h c).2.2,
    sem_eq_zero_of_no_sems (by decide) r.2⟩) (Cert.ReferenceIdeal.Value.run m ρ)

/-- From equal arguments the kernel and the reference end with equal results, each leaving its arguments unchanged. -/
theorem algebraic : Cert.algebraic_KernelIdeal_ReferenceIdeal := fun m g m' g' _ h =>
  ⟨fun c => Cert.KernelIdeal.Value.G4 m c, fun c => Cert.KernelIdeal.Value.G5 m c, Cert.KernelIdeal.Value.run m g,
    (θ_run _ _ _).mono (fun r H c =>
      ⟨(H c).1.trans (Cert.Equal.lse_eq m m' c (h c).1 (h c).2.1 (h c).2.2.1),
        (H c).2.1.trans (Cert.Equal.logprob_eq m m' c (h c).1 (h c).2.1 (h c).2.2.1 (h c).2.2.2), (H c).2.2⟩)
      (Cert.ReferenceIdeal.Value.run m' g')⟩

/-- Everything this certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
